-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x3072x14336 : Shape := ⟨3, ![3, 3072, 14336]⟩
abbrev S3x3072x1 : Shape := ⟨3, ![3, 3072, 1]⟩
abbrev S14336x4096 : Shape := ⟨2, ![14336, 4096]⟩
abbrev S4096 : Shape := ⟨1, ![4096]⟩
abbrev S3x3072x4096 : Shape := ⟨3, ![3, 3072, 4096]⟩
abbrev S9216x14336 : Shape := ⟨2, ![9216, 14336]⟩
abbrev S9216x1 : Shape := ⟨2, ![9216, 1]⟩
abbrev S1x4096 : Shape := ⟨2, ![1, 4096]⟩
abbrev S9216x4096 : Shape := ⟨2, ![9216, 4096]⟩
abbrev S1024x14336 : Shape := ⟨2, ![1024, 14336]⟩
abbrev S1024x1 : Shape := ⟨2, ![1024, 1]⟩
abbrev S14336x512 : Shape := ⟨2, ![14336, 512]⟩
abbrev S1x512 : Shape := ⟨2, ![1, 512]⟩
abbrev S1024x512 : Shape := ⟨2, ![1024, 512]⟩

abbrev nBuf : Space → Nat
  | .hbm => 11
  | .vmem => 12
  | .smem => 0
  | _ => 0

abbrev bufTy : (tb : Table) → Fin (tcTables nBuf tb) → BufTy
  | .hbm, ⟨0, _⟩ => ⟨S3x3072x14336, .fp8e4m3⟩
  | .hbm, ⟨1, _⟩ => ⟨S3x3072x1, .f32⟩
  | .hbm, ⟨2, _⟩ => ⟨S14336x4096, .fp8e4m3⟩
  | .hbm, ⟨3, _⟩ => ⟨S4096, .f32⟩
  | .hbm, ⟨4, _⟩ => ⟨S3x3072x4096, .bf16⟩
  | .hbm, ⟨5, _⟩ => ⟨S9216x14336, .fp8e4m3⟩
  | .hbm, ⟨6, _⟩ => ⟨S9216x1, .f32⟩
  | .hbm, ⟨7, _⟩ => ⟨S1x4096, .f32⟩
  | .hbm, ⟨8, _⟩ => ⟨S9216x4096, .bf16⟩
  | .hbm, ⟨9, _⟩ => ⟨S9216x4096, .bf16⟩
  | .hbm, ⟨10, _⟩ => ⟨S3x3072x4096, .bf16⟩
  | .local _ .vmem, ⟨0, _⟩ => ⟨S1024x14336, .fp8e4m3⟩
  | .local _ .vmem, ⟨1, _⟩ => ⟨S1024x14336, .fp8e4m3⟩
  | .local _ .vmem, ⟨2, _⟩ => ⟨S1024x1, .f32⟩
  | .local _ .vmem, ⟨3, _⟩ => ⟨S1024x1, .f32⟩
  | .local _ .vmem, ⟨4, _⟩ => ⟨S14336x512, .fp8e4m3⟩
  | .local _ .vmem, ⟨5, _⟩ => ⟨S14336x512, .fp8e4m3⟩
  | .local _ .vmem, ⟨6, _⟩ => ⟨S1x512, .f32⟩
  | .local _ .vmem, ⟨7, _⟩ => ⟨S1x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S3x3072x14336, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![9, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x14336 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S14336x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S3x3072x14336 : Shape := ⟨3, ![3, 3072, 14336]⟩
abbrev S3x3072x1 : Shape := ⟨3, ![3, 3072, 1]⟩
abbrev S14336x4096 : Shape := ⟨2, ![14336, 4096]⟩
abbrev S4096 : Shape := ⟨1, ![4096]⟩
abbrev S3x3072x4096 : Shape := ⟨3, ![3, 3072, 4096]⟩
abbrev S1x1x4096 : Shape := ⟨3, ![1, 1, 4096]⟩

abbrev nBuf : Space → Nat
  | .hbm => 6
  | .vmem => 6
  | .smem => 0
  | _ => 0

abbrev bufTy : (tb : Table) → Fin (tcTables nBuf tb) → BufTy
  | .hbm, ⟨0, _⟩ => ⟨S3x3072x14336, .fp8e4m3⟩
  | .hbm, ⟨1, _⟩ => ⟨S3x3072x1, .f32⟩
  | .hbm, ⟨2, _⟩ => ⟨S14336x4096, .fp8e4m3⟩
  | .hbm, ⟨3, _⟩ => ⟨S4096, .f32⟩
  | .hbm, ⟨4, _⟩ => ⟨S3x3072x4096, .bf16⟩
  | .hbm, ⟨5, _⟩ => ⟨S3x3072x4096, .bf16⟩
  | .local _ .vmem, ⟨0, _⟩ => ⟨S3x3072x14336, .fp8e4m3⟩
  | .local _ .vmem, ⟨1, _⟩ => ⟨S3x3072x1, .f32⟩
  | .local _ .vmem, ⟨2, _⟩ => ⟨S14336x4096, .fp8e4m3⟩
  | .local _ .vmem, ⟨3, _⟩ => ⟨S4096, .f32⟩
  | .local _ .vmem, ⟨4, _⟩ => ⟨S3x3072x4096, .bf16⟩
  | .local _ .vmem, ⟨5, _⟩ => ⟨S3x3072x4096, .bf16⟩
  | _, _ => ⟨S3x3072x14336, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3x3072x14336 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x3072x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S14336x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x3072x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x3072x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Value.Spec.lean ====
/-
  WHAT THE PROBLEM COMPUTES, over the extended reals: the down projection of every token, its two scales, and the
  residual, as one function of an output index.
-/
module

public import Idealize.ShloMosaic.PureOps.Ideal
public import Idealize.ShloMosaic.Lib.Pointwise

@[expose] public section

noncomputable section

namespace Cert.Proof.Value

open Idealize.ShloMosaic
open scoped BigOperators

/-- Element `(b, s, n)` of the result: the product of token `(b, s)` of `x` and column `n` of `w`, summed over all 14336
    features, times the token's scale, times the column's scale, plus the residual. -/
def elem (x : (⟨3, ![3, 3072, 14336]⟩ : Shape).Idx → EReal) (xs : (⟨3, ![3, 3072, 1]⟩ : Shape).Idx → EReal)
    (w : (⟨2, ![14336, 4096]⟩ : Shape).Idx → EReal) (ws : (⟨1, ![4096]⟩ : Shape).Idx → EReal)
    (r : (⟨3, ![3, 3072, 4096]⟩ : Shape).Idx → EReal) (b : Fin 3) (s : Fin 3072) (n : Fin 4096) : EReal :=
  (∑ k : Fin 14336, x (ix3 b s k) * w (ix2 k n)) * xs (ix3 b s 0) * ws (ix1 n) + r (ix3 b s n)

/-- The whole result: `elem` at every index. -/
def result (x : (⟨3, ![3, 3072, 14336]⟩ : Shape).Idx → EReal) (xs : (⟨3, ![3, 3072, 1]⟩ : Shape).Idx → EReal)
    (w : (⟨2, ![14336, 4096]⟩ : Shape).Idx → EReal) (ws : (⟨1, ![4096]⟩ : Shape).Idx → EReal)
    (r : (⟨3, ![3, 3072, 4096]⟩ : Shape).Idx → EReal) : (⟨3, ![3, 3072, 4096]⟩ : Shape).Idx → EReal :=
  fun i => elem x xs w ws r (i 0) (i 1) (i 2)

end Cert.Proof.Value

end
-- ==== Proof.Value.Block.lean ====
/-
  WHAT ONE GRID POINT OF THE KERNEL COMPUTES: the stored block at an index, as a sum over the features of the blocks it
  loaded, times the two scales, plus the residual.
-/
module

public import proofs.«01_k».proof.Proof.Value.Spec
public import proofs.«01_k».proof.Proof.Gen.KernelIdeal.Skeleton

@[expose] public section

noncomputable section

namespace Cert.Proof.Value

open Idealize.ShloMosaic Cert.KernelIdeal
open scoped BigOperators

/-- The block a grid point stores, read at row `p` and column `q`. -/
theorem block_apply (x : Vec Ideal S1024x14336 .fp8e4m3) (w : Vec Ideal S14336x512 .fp8e4m3)
    (xs : Vec Ideal S1024x1 .f32) (ws : Vec Ideal S1x512 .f32) (r : Vec Ideal S1024x512 .bf16)
    (p : Fin 1024) (q : Fin 512) :
    Gen.k0_pay1 (F := Ideal) x w xs ws r (ix2 p q)
      = (∑ k : Fin 14336, x (ix2 p k) * w (ix2 k q)) * xs (ix2 p 0) * ws (ix2 0 q) + r (ix2 p q) := by
  pointwise [Gen.k0_pay1]

end Cert.Proof.Value

end
-- ==== Proof.Value.Array.lean ====
/-
  WHAT THE KERNEL'S CALL LEAVES IN ITS OUTPUT ARRAY: over the 72 grid points (9 row blocks by 8 column blocks) the array
  of 9216 rows and 4096 columns is one function of the operands as the call finds them.
-/
module

public import proofs.«01_k».proof.Proof.Value.Block
public import proofs.«01_k».proof.Proof.Gen.KernelIdeal.Frame
public import Idealize.ShloMosaic.Lib.Pipeline.Value

@[expose] public section

noncomputable section

namespace Cert.Proof.Value

open Idealize.ShloMosaic Idealize.ShloMosaic.TcCoe Idealize.SL.Sem Cert.KernelIdeal Cert.KernelIdeal.Gen
open scoped BigOperators

/-- The flat result: row `i 0` of the flattened tokens against column `i 1` of the weights, the two scales, the residual. -/
def flat (x : S9216x14336.Idx → EReal) (xs : S9216x1.Idx → EReal) (w : S14336x4096.Idx → EReal)
    (ws : S1x4096.Idx → EReal) (r : S9216x4096.Idx → EReal) : S9216x4096.Idx → EReal :=
  fun i => (∑ k : Fin 14336, x (ix2 (i 0) k) * w (ix2 k (i 1))) * xs (ix2 (i 0) 0) * ws (ix2 0 (i 1)) + r i

variable (m : (ℓ : Loc nD τ sig) → Buf (Elt Ideal) ℓ)

/-- `flat` of the operands as the call finds them. -/
def flatAt (c : Dev nD) : S9216x4096.Idx → EReal :=
  flat (V m c main_v0) (V m c main_v1) (V m c main_arg2) (V m c main_v2) (V m c main_v3)

/-- How the windows move: the token windows with the output's rows, the weight windows with its columns. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = win0_5.index t (1 : Fin 2)
    ∧ win0_3.index t (0 : Fin 2) = 0 ∧ win0_3.index t (1 : Fin 2) = win0_5.index t (1 : Fin 2)
    ∧ win0_4.index t (0 : Fin 2) = win0_5.index t (0 : Fin 2) ∧ win0_4.index t (1 : Fin 2) = win0_5.index t (1 : Fin 2) :=
  (by decide +kernel : ∀ t : Fin grid0.N, _)

/-- Every pair of a row block and a column block is the output block of some grid point. -/
theorem idx_onto : ∀ (a : Fin 9) (b : Fin 8), ∃ t : Fin cfg0.N,
    win0_5.index t (0 : Fin 2) = a.val ∧ win0_5.index t (1 : Fin 2) = b.val :=
  (by decide +kernel : ∀ (a : Fin 9) (b : Fin 8), ∃ t : Fin grid0.N,
    win0_5.index t (0 : Fin 2) = a.val ∧ win0_5.index t (1 : Fin 2) = b.val)

/-- Both offsets of a whole-block access are zero. -/
theorem off_zero : (![0, 0] : Fin 2 → Nat) = fun _ => 0 := funext fun a => by fin_cases a <;> rfl

/-- The body's loads and its store are of whole blocks, so what it leaves is the payload of the blocks. -/
theorem out_eq (x0 : Vec Ideal S1024x14336 .fp8e4m3) (x1 : Vec Ideal S1024x1 .f32) (x2 : Vec Ideal S14336x512 .fp8e4m3)
    (x3 : Vec Ideal S1x512 .f32) (x4 : Vec Ideal S1024x512 .bf16) :
    out0_5 (F := Ideal) x0 x1 x2 x3 x4 = k0_pay1 x0 x2 x1 x3 x4 := by
  unfold out0_5
  rw [View.canon_unit_zero off_zero, View.ld_unit_zero (S := S1024x14336) off_zero _ x0,
    View.ld_unit_zero (S := S14336x512) off_zero _ x2, View.ld_unit_zero (S := S1024x1) off_zero _ x1,
    View.ld_unit_zero (S := S1x512) off_zero _ x3, View.ld_unit_zero (S := S1024x512) off_zero _ x4]

/-- Element `(p, k)` of a point's token block is the array's, at the output block's rows. -/
theorem emb_x (t : Fin cfg0.N) (j : S1024x512.Idx) (k : Fin 14336) :
    ((cfg0.win 0).blk t).view.emb (ix2 (j 0) k) = ix2 (((cfg0.win 5).blk t).view.emb j 0) k := by
  obtain ⟨e0, e1, -⟩ := idx_facts t
  funext a; apply Fin.ext
  match a with
  | ⟨0, _⟩ =>
    show win0_0.index t (0 : Fin 2) * 1024 + 1 * (j 0).val = win0_5.index t (0 : Fin 2) * 1024 + 1 * (j 0).val
    omega
  | ⟨1, _⟩ => show win0_0.index t (1 : Fin 2) * 14336 + 1 * k.val = k.val; omega

/-- Element `p` of a point's block of token scales is the array's, at the output block's rows. -/
theorem emb_xs (t : Fin cfg0.N) (j : S1024x512.Idx) :
    ((cfg0.win 1).blk t).view.emb (ix2 (j 0) 0) = ix2 (((cfg0.win 5).blk t).view.emb j 0) 0 := by
  obtain ⟨-, -, e0, e1, -⟩ := idx_facts t
  funext a; apply Fin.ext
  match a with
  | ⟨0, _⟩ =>
    show win0_1.index t (0 : Fin 2) * 1024 + 1 * (j 0).val = win0_5.index t (0 : Fin 2) * 1024 + 1 * (j 0).val
    omega
  | ⟨1, _⟩ => show win0_1.index t (1 : Fin 2) * 1 + 1 * 0 = 0; omega

/-- Element `(k, q)` of a point's weight block is the array's, at the output block's columns. -/
theorem emb_w (t : Fin cfg0.N) (j : S1024x512.Idx) (k : Fin 14336) :
    ((cfg0.win 2).blk t).view.emb (ix2 k (j 1)) = ix2 k (((cfg0.win 5).blk t).view.emb j 1) := by
  obtain ⟨-, -, -, -, e0, e1, -⟩ := idx_facts t
  funext a; apply Fin.ext
  match a with
  | ⟨0, _⟩ => show win0_2.index t (0 : Fin 2) * 14336 + 1 * k.val = k.val; omega
  | ⟨1, _⟩ =>
    show win0_2.index t (1 : Fin 2) * 512 + 1 * (j 1).val = win0_5.index t (1 : Fin 2) * 512 + 1 * (j 1).val
    omega

/-- Element `q` of a point's block of column scales is the array's, at the output block's columns. -/
theorem emb_ws (t : Fin cfg0.N) (j : S1024x512.Idx) :
    ((cfg0.win 3).blk t).view.emb (ix2 0 (j 1)) = ix2 0 (((cfg0.win 5).blk t).view.emb j 1) := by
  obtain ⟨-, -, -, -, -, -, e0, e1, -⟩ := idx_facts t
  funext a; apply Fin.ext
  match a with
  | ⟨0, _⟩ => show win0_3.index t (0 : Fin 2) * 1 + 1 * 0 = 0; omega
  | ⟨1, _⟩ =>
    show win0_3.index t (1 : Fin 2) * 512 + 1 * (j 1).val = win0_5.index t (1 : Fin 2) * 512 + 1 * (j 1).val
    omega

/-- A point's residual block lies in its array where the output block does. -/
theorem emb_r (t : Fin cfg0.N) (j : S1024x512.Idx) :
    ((cfg0.win 4).blk t).view.emb j = ((cfg0.win 5).blk t).view.emb j := by
  obtain ⟨-, -, -, -, -, -, -, -, e0, e1⟩ := idx_facts t
  funext a; apply Fin.ext
  match a with
  | ⟨0, _⟩ =>
    show win0_4.index t (0 : Fin 2) * 1024 + 1 * (j 0).val = win0_5.index t (0 : Fin 2) * 1024 + 1 * (j 0).val
    omega
  | ⟨1, _⟩ =>
    show win0_4.index t (1 : Fin 2) * 512 + 1 * (j 1).val = win0_5.index t (1 : Fin 2) * 512 + 1 * (j 1).val
    omega

/-- What a grid point writes back is its block of `flatAt`. -/
theorem flushed_eq (c : Dev nD) (t : Fin cfg0.N) :
    (dats m 0 c).flushed 5 t = ((cfg0.win 5).blk t).view.read (Elt Ideal) (flatAt m c) := by
  show (cfg0.win 5).cut (grid0.coords t) ((dats m 0 c).after 5 t) = _
  rw [after0_5, out_eq]
  funext j
  show k0_pay1 (F := Ideal) (iblk m c 0 t) (iblk m c 2 t) (iblk m c 1 t) (iblk m c 3 t) (iblk m c 4 t) j
    = flatAt m c (((cfg0.win 5).blk t).view.emb j)
  have hj : j = ix2 (n0 := 1024) (n1 := 512) (j 0) (j 1) := eq_ix2 j
  conv_lhs => rw [hj]
  refine (block_apply _ _ _ _ _ (j 0) (j 1)).trans ?_
  rw [← hj]
  unfold flatAt flat
  have hx : ∀ k : Fin 14336, iblk m c 0 t (ix2 (j 0) k) = V m c main_v0 (ix2 (((cfg0.win 5).blk t).view.emb j 0) k) :=
    fun k => congrArg (V m c main_v0) (emb_x t j k)
  have hw : ∀ k : Fin 14336, iblk m c 2 t (ix2 k (j 1)) = V m c main_arg2 (ix2 k (((cfg0.win 5).blk t).view.emb j 1)) :=
    fun k => congrArg (V m c main_arg2) (emb_w t j k)
  have hxs : iblk m c 1 t (ix2 (j 0) 0) = V m c main_v1 (ix2 (((cfg0.win 5).blk t).view.emb j 0) 0) :=
    congrArg (V m c main_v1) (emb_xs t j)
  have hws : iblk m c 3 t (ix2 0 (j 1)) = V m c main_v2 (ix2 0 (((cfg0.win 5).blk t).view.emb j 1)) :=
    congrArg (V m c main_v2) (emb_ws t j)
  have hr : iblk m c 4 t j = V m c main_v3 (((cfg0.win 5).blk t).view.emb j) :=
    congrArg (V m c main_v3) (emb_r t j)
  rw [hxs, hws, hr, Finset.sum_congr rfl fun k _ => by rw [hx k, hw k]]

/-- An index is in a point's output block when each coordinate is within the block's range. -/
theorem mem_blk (t : Fin cfg0.N) (i : S9216x4096.Idx) : i ∈ ((cfg0.win 5).blk t).view.set ↔
    ∀ a : Fin 2, win0_5.index t a * S1024x512.size a ≤ (i a).val
      ∧ (i a).val < win0_5.index t a * S1024x512.size a + S1024x512.size a := by
  show i ∈ ((View.whole main_v4).slice (win0_5.rect t)).set ↔ _
  rw [View.set_slice_whole, Rect.mem_set_unit]
  exact Iff.rfl

/-- The output blocks cover the array. -/
theorem covered (i : S9216x4096.Idx) :
    ∃ t : Fin cfg0.N, (cfg0.win 5).flush t = true ∧ i ∈ ((cfg0.win 5).blk t).view.set := by
  have h0 : (i 0).val < 9216 := (i 0).isLt
  have h1 : (i 1).val < 4096 := (i 1).isLt
  obtain ⟨t, e0, e1⟩ := idx_onto ⟨(i 0).val / 1024, by omega⟩ ⟨(i 1).val / 512, by omega⟩
  replace e0 : win0_5.index t (0 : Fin 2) = (i 0).val / 1024 := e0
  replace e1 : win0_5.index t (1 : Fin 2) = (i 1).val / 512 := e1
  refine ⟨t, flush0_5 t, ?_⟩
  rw [mem_blk]
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 512 ≤ (i 1).val ∧ (i 1).val < win0_5.index t (1 : Fin 2) * 512 + 512
    omega

/-- THE ARRAY the call leaves is `flatAt`. -/
theorem final (c : Dev nD) : (dats m 0 c).arrAt 5 cfg0.N = flatAt m c :=
  (dats m 0 c).arrAt_eq_of_cover 5 (flatAt m c) (fun t _ => flushed_eq m c t) covered

end Cert.Proof.Value

end
-- ==== Proof.Value.Kernel.lean ====
/-
  WHAT THE IDEAL KERNEL COMPUTES: the host flattens the batch and sequence axes into 9216 rows, the call computes the
  flat result, and the host restores the axes. Read at an index, that is `result` of the arguments.
-/
module

public import proofs.«01_k».proof.Proof.Value.Spec
public import proofs.«01_k».proof.Proof.Value.Array

@[expose] public section

noncomputable section

namespace Cert.Proof.Value

open Idealize.ShloMosaic Idealize.ShloMosaic.TcCoe Idealize.SL.Sem Cert.KernelIdeal Cert.KernelIdeal.Gen
open scoped BigOperators

variable (m : (ℓ : Loc nD τ sig) → Buf (Elt Ideal) ℓ)

/-- The call finds the tokens with their two leading axes flattened. -/
theorem V_main_v0 (c : Dev nD) : V m c main_v0
    = shapeCast S9216x14336 (m (c, Proc.devRef .tc main_arg0)) shapeCasts_S3x3072x14336_S9216x14336 := by
  show StableHlo.after hostOps0 (fun b => m (c, b)) (Proc.devRef .tc main_v0) = _
  unfold hostOps0
  after_results
  rfl

/-- The call finds the token scales with their two leading axes flattened. -/
theorem V_main_v1 (c : Dev nD) : V m c main_v1
    = shapeCast S9216x1 (m (c, Proc.devRef .tc main_arg1)) shapeCasts_S3x3072x1_S9216x1 := by
  show StableHlo.after hostOps0 (fun b => m (c, b)) (Proc.devRef .tc main_v1) = _
  unfold hostOps0
  after_results
  rfl

/-- The call finds the column scales as one row. -/
theorem V_main_v2 (c : Dev nD) : V m c main_v2
    = shapeCast S1x4096 (m (c, Proc.devRef .tc main_arg3)) shapeCasts_S4096_S1x4096 := by
  show StableHlo.after hostOps0 (fun b => m (c, b)) (Proc.devRef .tc main_v2) = _
  unfold hostOps0
  after_results
  rfl

/-- The call finds the residual with its two leading axes flattened. -/
theorem V_main_v3 (c : Dev nD) : V m c main_v3
    = shapeCast S9216x4096 (m (c, Proc.devRef .tc main_arg4)) shapeCasts_S3x3072x4096_S9216x4096 := by
  show StableHlo.after hostOps0 (fun b => m (c, b)) (Proc.devRef .tc main_v3) = _
  unfold hostOps0
  after_results
  rfl

/-- After the call, the host's result is the call's output array with the two leading axes restored. -/
theorem after_main_v5 (c : Dev nD) : Pipeline.afterTail₀ cfgs (dats m) 0 (V0 m) [hostOps1] c main_v5
    = shapeCast S3x3072x4096 (flatAt m c) shapeCasts_S9216x4096_S3x3072x4096 := by
  unfold Pipeline.afterTail₀
  show StableHlo.after hostOps1 _ (Proc.devRef .tc main_v5) = _
  unfold hostOps1
  after_results
  exact congrArg (fun A => shapeCast S3x3072x4096 A shapeCasts_S9216x4096_S3x3072x4096)
    ((Pipeline.withArrays_arr spec0 winFacts0.arr_inj c (V0 m c) (fun w => (dats m 0 c).arrAt w cfg0.N) 5).trans (final m c))

/-- Flattening the operands, computing the flat result and restoring the axes is `result`, at an index. -/
theorem restore_apply (x : Vec Ideal S3x3072x14336 .fp8e4m3) (xs : Vec Ideal S3x3072x1 .f32)
    (w : Vec Ideal S14336x4096 .fp8e4m3) (ws : Vec Ideal S4096 .f32) (r : Vec Ideal S3x3072x4096 .bf16)
    (b : Fin 3) (s : Fin 3072) (n : Fin 4096) :
    shapeCast S3x3072x4096 (flat (shapeCast S9216x14336 x shapeCasts_S3x3072x14336_S9216x14336)
      (shapeCast S9216x1 xs shapeCasts_S3x3072x1_S9216x1) w (shapeCast S1x4096 ws shapeCasts_S4096_S1x4096)
      (shapeCast S9216x4096 r shapeCasts_S3x3072x4096_S9216x4096)) shapeCasts_S9216x4096_S3x3072x4096 (ix3 b s n)
      = elem x xs w ws r b s n := by
  pointwise [flat, elem]

/-- The same as one equation. -/
theorem restore_eq (x : Vec Ideal S3x3072x14336 .fp8e4m3) (xs : Vec Ideal S3x3072x1 .f32)
    (w : Vec Ideal S14336x4096 .fp8e4m3) (ws : Vec Ideal S4096 .f32) (r : Vec Ideal S3x3072x4096 .bf16) :
    shapeCast S3x3072x4096 (flat (shapeCast S9216x14336 x shapeCasts_S3x3072x14336_S9216x14336)
      (shapeCast S9216x1 xs shapeCasts_S3x3072x1_S9216x1) w (shapeCast S1x4096 ws shapeCasts_S4096_S1x4096)
      (shapeCast S9216x4096 r shapeCasts_S3x3072x4096_S9216x4096)) shapeCasts_S9216x4096_S3x3072x4096
      = result x xs w ws r := by
  funext i
  conv_lhs => rw [eq_ix3 (n0 := 3) (n1 := 3072) (n2 := 4096) i]
  exact restore_apply x xs w ws r (i 0) (i 1) (i 2)

/-- The host's result, in the launch contents of the arguments. -/
theorem result_main_v5 (c : Dev nD) : Pipeline.afterTail₀ cfgs (dats m) 0 (V0 m) [hostOps1] c main_v5
    = result (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) := by
  rw [after_main_v5]
  unfold flatAt
  rw [V_main_v0, V_main_v1, V_main_arg2, V_main_v2, V_main_v3]
  exact restore_eq _ _ _ _ _

/-- THE RUN of the ideal kernel: it ends with `result` of the arguments in its result, the arguments unchanged. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v5)
        = result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v5 (Pipeline.mem_restRefs_of main_v5 (by decide) (by decide))).trans (result_main_v5 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Proof.Value

end
-- ==== Proof.Value.Reference.lean ====
/-
  WHAT THE REFERENCE COMPUTES: its one body's value at an index is the problem's element there.
-/
module

public import proofs.«01_k».proof.Proof.Value.Spec
public import proofs.«01_k».proof.Proof.Gen.ReferenceIdeal.Skeleton

@[expose] public section

noncomputable section

namespace Cert.Proof.Value

open Idealize.ShloMosaic Cert.ReferenceIdeal
open scoped BigOperators

/-- The value the reference stores, read at `(b, s, n)`: one product of the whole arrays, the two scales, the residual. -/
theorem reference_apply (x : Vec Ideal S3x3072x14336 .fp8e4m3) (w : Vec Ideal S14336x4096 .fp8e4m3)
    (xs : Vec Ideal S3x3072x1 .f32) (ws : Vec Ideal S4096 .f32) (r : Vec Ideal S3x3072x4096 .bf16)
    (b : Fin 3) (s : Fin 3072) (n : Fin 4096) :
    Gen.k0_pay1 (F := Ideal) x w xs ws r (ix3 b s n) = elem x xs w ws r b s n := by
  pointwise [Gen.k0_pay1, elem]

/-- The reference's array is the problem's result. -/
theorem reference_eq (x : Vec Ideal S3x3072x14336 .fp8e4m3) (w : Vec Ideal S14336x4096 .fp8e4m3)
    (xs : Vec Ideal S3x3072x1 .f32) (ws : Vec Ideal S4096 .f32) (r : Vec Ideal S3x3072x4096 .bf16) :
    Gen.k0_pay1 (F := Ideal) x w xs ws r = result x xs w ws r := by
  funext i
  rw [eq_ix3 i]
  exact reference_apply x w xs ws r (i 0) (i 1) (i 2)

end Cert.Proof.Value

end
-- ==== Proof.lean ====
/-
  THE CERTIFICATE: the frames of the three programs, the kernel's ideal form, and its equality with the reference. The
  frames are the generated modules'; the value of the kernel is Proof/Value/Kernel.lean, of the reference
  Proof/Value/Reference.lean.
-/
module

public import proofs.«01_k».proof.Proof.Value.Kernel
public import proofs.«01_k».proof.Proof.Value.Reference
public import proofs.«01_k».proof.Proof.Gen.ReferenceIdeal.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem

/-- The ideal kernel and the ideal reference, launched on equal arguments, end with equal results: both end with
    `Value.result` of the arguments. -/
theorem algebraic : Cert.algebraic_KernelIdeal_ReferenceIdeal := by
  intro m g m' g' _ hargs
  refine ⟨_, Value.kernel_run m g, (θ_run _ _ _).mono (fun r h c => ⟨?_, (h c).2⟩) (Cert.ReferenceIdeal.Value.run m' g')⟩
  obtain ⟨e0, e1, e2, e3, e4⟩ := hargs c
  refine ((h c).1.trans (Value.reference_eq _ _ _ _ _)).trans ?_
  rw [e0, e1, e2, e3, e4]

/-- The three programs run to the end with their arguments unchanged and every counter at zero; the kernel and its ideal
    form are one program; and the ideal kernel computes what the ideal reference computes. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, algebraic⟩

end Cert.Proof

end
